-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_axis [hPre_unit_axis : Cert.Pre_unit_axis.Facts] (m : (ℓ : Loc Cert.KernelIdeal.nD Cert.KernelIdeal.τ Cert.KernelIdeal.sig) → Buf (Elt Ideal) ℓ) : Prop :=
  ∀ c : Dev Cert.KernelIdeal.nD,
    (Cert.Pre_unit_axis.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_axis [hPre_unit_axis : Cert.Pre_unit_axis.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_axis.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_unit_axis [hKernelIdeal : Cert.KernelIdeal.Facts] [hPre_unit_axis : Cert.Pre_unit_axis.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_axis m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_unit_axis [hReferenceIdeal : Cert.ReferenceIdeal.Facts] [hPre_unit_axis : Cert.Pre_unit_axis.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_axis m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_unit_axis [hKernelIdeal : Cert.KernelIdeal.Facts] [hReferenceIdeal : Cert.ReferenceIdeal.Facts] [hPre_unit_axis : Cert.Pre_unit_axis.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_axis m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_unit_axis : Cert.Pre_unit_axis.Facts),
    quiescent_Kernel (hKernel := hKernel)
    ∧ quiescent_KernelIdeal (hKernelIdeal := hKernelIdeal)
    ∧ quiescent_KernelIdeal_pre_unit_axis (hKernelIdeal := hKernelIdeal) (hPre_unit_axis := hPre_unit_axis)
    ∧ quiescent_ReferenceIdeal (hReferenceIdeal := hReferenceIdeal)
    ∧ quiescent_ReferenceIdeal_pre_unit_axis (hReferenceIdeal := hReferenceIdeal) (hPre_unit_axis := hPre_unit_axis)
    ∧ preserves_Kernel_KernelIdeal
    ∧ algebraic_KernelIdeal_ReferenceIdeal_pre_unit_axis (hKernelIdeal := hKernelIdeal) (hReferenceIdeal := hReferenceIdeal) (hPre_unit_axis := hPre_unit_axis)
-- ==== Pre_unit_axis.lean ====
abbrev S1000000 : Shape := ⟨1, ![1000000]⟩
abbrev S2000000 : Shape := ⟨1, ![2000000]⟩
abbrev S_ : Shape := ⟨0, ![]⟩

class Facts : Prop where
  reducesTo_S1000000_S_d0 : S1000000.ReducesTo [0] S_
  h_S_ : 0 < S_.numel
  bcast_S_S2000000 : S_.BroadcastsInDim S2000000 (![] : Fin 0 → Fin S2000000.rank)
  reducesTo_S2000000_S_d0 : S2000000.ReducesTo [0] S_

variable [Facts]

def fn {F : FTy → Type} [FloatOps F] (main_arg0 : FVec F S1000000 .f32) (main_arg1 : FVec F S2000000 .f32) : IVec S_ 1 :=
  let main_v0 : FVec F S1000000 .f32 := sitofp .f32 (iotaInDim S1000000 32 0)
  let main_v1 : IVec S1000000 1 := cmpf .oeq main_arg0 main_v0
  let main_c : IVec S_ 1 := constantI S_ 1 1#1
  let main_v2 : IVec S_ 1 := (fun x v => Host.reduce IntOp.andi x v reducesTo_S1000000_S_d0 h_S_) main_v1 main_c
  let main_cst : FVec F S_ .f32 := constant S_ .f32 0x4EFFFFFF#32
  let main_v3 : FVec F S2000000 .f32 := broadcastInDim S2000000 ![] bcast_S_S2000000 main_cst
  let main_v4 : IVec S2000000 1 := cmpf .ole main_arg1 main_v3
  let main_c_0 : IVec S_ 1 := constantI S_ 1 1#1
  let main_v5 : IVec S_ 1 := (fun x v => Host.reduce IntOp.andi x v reducesTo_S2000000_S_d0 h_S_) main_v4 main_c_0
  let main_v6 : IVec S_ 1 := andi main_v2 main_v5
  main_v6
-- ==== Kernel.lean ====
abbrev S1000000 : Shape := ⟨1, ![1000000]⟩
abbrev S2000000 : Shape := ⟨1, ![2000000]⟩
abbrev S_ : Shape := ⟨0, ![]⟩
abbrev S2000384 : Shape := ⟨1, ![2000384]⟩
abbrev S3907x512 : Shape := ⟨2, ![3907, 512]⟩
abbrev S512x512 : Shape := ⟨2, ![512, 512]⟩

abbrev nBuf : Space → Nat
  | .hbm => 9
  | .vmem => 4
  | .smem => 0
  | _ => 0

abbrev bufTy : (tb : Table) → Fin (tcTables nBuf tb) → BufTy
  | .hbm, ⟨0, _⟩ => ⟨S1000000, .f32⟩
  | .hbm, ⟨1, _⟩ => ⟨S2000000, .f32⟩
  | .hbm, ⟨2, _⟩ => ⟨S_, .i32⟩
  | .hbm, ⟨3, _⟩ => ⟨S_, .f32⟩
  | .hbm, ⟨4, _⟩ => ⟨S2000384, .f32⟩
  | .hbm, ⟨5, _⟩ => ⟨S3907x512, .f32⟩
  | .hbm, ⟨6, _⟩ => ⟨S3907x512, .i32⟩
  | .hbm, ⟨7, _⟩ => ⟨S2000384, .i32⟩
  | .hbm, ⟨8, _⟩ => ⟨S2000000, .i32⟩
  | .local _ .vmem, ⟨0, _⟩ => ⟨S512x512, .f32⟩
  | .local _ .vmem, ⟨1, _⟩ => ⟨S512x512, .f32⟩
  | .local _ .vmem, ⟨2, _⟩ => ⟨S512x512, .i32⟩
  | .local _ .vmem, ⟨3, _⟩ => ⟨S512x512, .i32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S1000000 : Shape := ⟨1, ![1000000]⟩
abbrev S2000000 : Shape := ⟨1, ![2000000]⟩
abbrev S1x1000000 : Shape := ⟨2, ![1, 1000000]⟩
abbrev S2000000x1 : Shape := ⟨2, ![2000000, 1]⟩
abbrev S2000000x1000000 : Shape := ⟨2, ![2000000, 1000000]⟩
abbrev S_ : Shape := ⟨0, ![]⟩
abbrev S1 : Shape := ⟨1, ![1]⟩
abbrev S1x1 : Shape := ⟨2, ![1, 1]⟩

abbrev nBuf : Space → Nat
  | .hbm => 96
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S2000000, .f32⟩
  | .hbm, ⟨2, _⟩ => ⟨S1000000, .f32⟩
  | .hbm, ⟨3, _⟩ => ⟨S1x1000000, .f32⟩
  | .hbm, ⟨4, _⟩ => ⟨S2000000x1, .f32⟩
  | .hbm, ⟨5, _⟩ => ⟨S2000000x1000000, .f32⟩
  | .hbm, ⟨6, _⟩ => ⟨S2000000x1000000, .f32⟩
  | .hbm, ⟨7, _⟩ => ⟨S2000000x1000000, .i1⟩
  | .hbm, ⟨8, _⟩ => ⟨S2000000x1000000, .i32⟩
  | .hbm, ⟨9, _⟩ => ⟨S_, .i32⟩
  | .hbm, ⟨10, _⟩ => ⟨S2000000, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S2000000, .i32⟩
  | .hbm, ⟨15, _⟩ => ⟨S2000000, .i32⟩
  | .hbm, ⟨16, _⟩ => ⟨S_, .i32⟩
  | .hbm, ⟨17, _⟩ => ⟨S2000000, .i32⟩
  | .hbm, ⟨18, _⟩ => ⟨S2000000, .i32⟩
  | .hbm, ⟨19, _⟩ => ⟨S_, .i32⟩
  | .hbm, ⟨20, _⟩ => ⟨S2000000, .i32⟩
  | .hbm, ⟨21, _⟩ => ⟨S2000000, .i32⟩
  | .hbm, ⟨22, _⟩ => ⟨S_, .i32⟩
  | .hbm, ⟨23, _⟩ => ⟨S2000000, .i32⟩
  | .hbm, ⟨24, _⟩ => ⟨S2000000, .i1⟩
  | .hbm, ⟨25, _⟩ => ⟨S_, .i32⟩
  | .hbm, ⟨26, _⟩ => ⟨S2000000, .i32⟩
  | .hbm, ⟨27, _⟩ => ⟨S2000000, .i32⟩
  | .hbm, ⟨28, _⟩ => ⟨S2000000, .i32⟩
  | .hbm, ⟨29, _⟩ => ⟨S2000000x1, .i32⟩
  | .hbm, ⟨30, _⟩ => ⟨S1, .i32⟩
  | .hbm, ⟨31, _⟩ => ⟨S_, .i32⟩
  | .hbm, ⟨32, _⟩ => ⟨S2000000x1, .i32⟩
  | .hbm, ⟨33, _⟩ => ⟨S2000000x1, .i1⟩
  | .hbm, ⟨34, _⟩ => ⟨S1x1, .i32⟩
  | .hbm, ⟨35, _⟩ => ⟨S2000000x1, .i32⟩
  | .hbm, ⟨36, _⟩ => ⟨S2000000x1, .i1⟩
  | .hbm, ⟨37, _⟩ => ⟨S2000000x1, .i1⟩
  | .hbm, ⟨38, _⟩ => ⟨S_, .i1⟩
  | .hbm, ⟨39, _⟩ => ⟨S2000000, .i1⟩
  | .hbm, ⟨40, _⟩ => ⟨S2000000, .f32⟩
  | .hbm, ⟨41, _⟩ => ⟨S_, .f32⟩
  | .hbm, ⟨42, _⟩ => ⟨S2000000, .f32⟩
  | .hbm, ⟨43, _⟩ => ⟨S2000000, .f32⟩
  | .hbm, ⟨44, _⟩ => ⟨S_, .i32⟩
  | .hbm, ⟨45, _⟩ => ⟨S2000000, .i32⟩
  | .hbm, ⟨46, _⟩ => ⟨S2000000, .i1⟩
  | .hbm, ⟨47, _⟩ => ⟨S_, .i32⟩
  | .hbm, ⟨48, _⟩ => ⟨S2000000, .i32⟩
  | .hbm, ⟨49, _⟩ => ⟨S2000000, .i32⟩
  | .hbm, ⟨50, _⟩ => ⟨S2000000, .i32⟩
  | .hbm, ⟨51, _⟩ => ⟨S2000000x1, .i32⟩
  | .hbm, ⟨52, _⟩ => ⟨S1, .i32⟩
  | .hbm, ⟨53, _⟩ => ⟨S_, .i32⟩
  | .hbm, ⟨54, _⟩ => ⟨S2000000x1, .i32⟩
  | .hbm, ⟨55, _⟩ => ⟨S2000000x1, .i1⟩
  | .hbm, ⟨56, _⟩ => ⟨S1x1, .i32⟩
  | .hbm, ⟨57, _⟩ => ⟨S2000000x1, .i32⟩
  | .hbm, ⟨58, _⟩ => ⟨S2000000x1, .i1⟩
  | .hbm, ⟨59, _⟩ => ⟨S2000000x1, .i1⟩
  | .hbm, ⟨60, _⟩ => ⟨S_, .i1⟩
  | .hbm, ⟨61, _⟩ => ⟨S2000000, .i1⟩
  | .hbm, ⟨62, _⟩ => ⟨S2000000, .f32⟩
  | .hbm, ⟨63, _⟩ => ⟨S_, .f32⟩
  | .hbm, ⟨64, _⟩ => ⟨S2000000, .f32⟩
  | .hbm, ⟨65, _⟩ => ⟨S2000000, .f32⟩
  | .hbm, ⟨66, _⟩ => ⟨S2000000, .f32⟩
  | .hbm, ⟨67, _⟩ => ⟨S2000000, .f32⟩
  | .hbm, ⟨68, _⟩ => ⟨S2000000, .i1⟩
  | .hbm, ⟨69, _⟩ => ⟨S_, .i32⟩
  | .hbm, ⟨70, _⟩ => ⟨S2000000, .i32⟩
  | .hbm, ⟨71, _⟩ => ⟨S2000000, .i32⟩
  | .hbm, ⟨72, _⟩ => ⟨S2000000, .i32⟩
  | .hbm, ⟨73, _⟩ => ⟨S_, .i32⟩
  | .hbm, ⟨74, _⟩ => ⟨S2000000, .i32⟩
  | .hbm, ⟨75, _⟩ => ⟨S2000000, .i1⟩
  | .hbm, ⟨76, _⟩ => ⟨S_, .i32⟩
  | .hbm, ⟨77, _⟩ => ⟨S2000000, .i32⟩
  | .hbm, ⟨78, _⟩ => ⟨S2000000, .i32⟩
  | .hbm, ⟨79, _⟩ => ⟨S2000000, .i32⟩
  | .hbm, ⟨80, _⟩ => ⟨S2000000x1, .i32⟩
  | .hbm, ⟨81, _⟩ => ⟨S1, .i32⟩
  | .hbm, ⟨82, _⟩ => ⟨S_, .i32⟩
  | .hbm, ⟨83, _⟩ => ⟨S2000000x1, .i32⟩
  | .hbm, ⟨84, _⟩ => ⟨S2000000x1, .i1⟩
  | .hbm, ⟨85, _⟩ => ⟨S1x1, .i32⟩
  | .hbm, ⟨86, _⟩ => ⟨S2000000x1, .i32⟩
  | .hbm, ⟨87, _⟩ => ⟨S2000000x1, .i1⟩
  | .hbm, ⟨88, _⟩ => ⟨S2000000x1, .i1⟩
  | .hbm, ⟨89, _⟩ => ⟨S_, .i1⟩
  | .hbm, ⟨90, _⟩ => ⟨S2000000, .i1⟩
  | .hbm, ⟨91, _⟩ => ⟨S2000000, .f32⟩
  | .hbm, ⟨92, _⟩ => ⟨S_, .f32⟩
  | .hbm, ⟨93, _⟩ => ⟨S2000000, .f32⟩
  | .hbm, ⟨94, _⟩ => ⟨S2000000, .f32⟩
  | .hbm, ⟨95, _⟩ => ⟨S2000000, .i32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v11 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_c_1 : Ref sig .tc := ⟨.hbm, 52, rfl⟩
abbrev main_call2_c_2 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_3 : Ref sig .tc := ⟨.hbm, 60, rfl⟩
abbrev main_call2_v12 : Ref sig .tc := ⟨.hbm, 61, rfl⟩
abbrev main_call2_v13 : Ref sig .tc := ⟨.hbm, 62, rfl⟩
abbrev main_call2_cst : Ref sig .tc := ⟨.hbm, 63, rfl⟩
abbrev main_call2_v14 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_c_3 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_call4_c : Ref sig .tc := ⟨.hbm, 73, rfl⟩
abbrev main_call4_v0 : Ref sig .tc := ⟨.hbm, 74, rfl⟩
abbrev main_call4_v1 : Ref sig .tc := ⟨.hbm, 75, rfl⟩
abbrev main_call4_c_0 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_call4_v5 : Ref sig .tc := ⟨.hbm, 80, rfl⟩
abbrev main_call4_c_1 : Ref sig .tc := ⟨.hbm, 81, rfl⟩
abbrev main_call4_c_2 : Ref sig .tc := ⟨.hbm, 82, rfl⟩
abbrev main_call4_v6 : Ref sig .tc := ⟨.hbm, 83, rfl⟩
abbrev main_call4_v7 : Ref sig .tc := ⟨.hbm, 84, rfl⟩
abbrev main_call4_v8 : Ref sig .tc := ⟨.hbm, 85, rfl⟩
abbrev main_call4_v9 : Ref sig .tc := ⟨.hbm, 86, rfl⟩
abbrev main_call4_v10 : Ref sig .tc := ⟨.hbm, 87, rfl⟩
abbrev main_call4_v11 : Ref sig .tc := ⟨.hbm, 88, rfl⟩
abbrev main_call4_c_3 : Ref sig .tc := ⟨.hbm, 89, rfl⟩
abbrev main_call4_v12 : Ref sig .tc := ⟨.hbm, 90, rfl⟩
abbrev main_call4_v13 : Ref sig .tc := ⟨.hbm, 91, rfl⟩
abbrev main_call4_cst : Ref sig .tc := ⟨.hbm, 92, rfl⟩
abbrev main_call4_v14 : Ref sig .tc := ⟨.hbm, 93, rfl⟩
abbrev main_v19 : Ref sig .tc := ⟨.hbm, 94, rfl⟩
abbrev main_v20 : Ref sig .tc := ⟨.hbm, 95, rfl⟩

abbrev nD : Nat := 1
abbrev τ : Topo := Topo.v7x

variable {F : FTy → Type} [FloatOps F]
-- ==== Proof.Round.lean ====
/-
  The kernel's computation on one query, as a function of the query's float alone: what every element of the result
  block is of the element of the input block at the same place. Stated for any float values, so that the kernel as
  run and the idealized kernel share it.
-/
module

public import Idealize.ShloMosaic.PureOps

@[expose] public section

noncomputable section

namespace Cert.Round

open Idealize.ShloMosaic

variable {F : FTy → Type} [FloatOps F]

/-- The query less one half. -/
def shifted (x : F .f32) : F .f32 := FloatOps.subf x (Scalar.ofBits .f32 0x3F000000#32)

/-- The shifted query, raised to zero where it is negative, truncated to an integer. -/
def truncated (x : F .f32) : BitVec 32 :=
  FloatOps.fptosi 32 (FloatOps.maximumf (shifted x) (Scalar.ofBits .f32 0x00000000#32))

/-- The index the kernel answers: the truncated value, plus one where truncation went below the shifted query (so the
    shifted query rounded up), and at most the last index. -/
def roundWord (x : F .f32) : BitVec 32 :=
  IntOp.minsi
    (IntOp.addi (truncated x) ((FloatOps.cmpf .olt (FloatOps.sitofp .f32 (truncated x)) (shifted x)).setWidth 32))
    999999#32

end Cert.Round

end
-- ==== Proof.KernelIdealBody.lean ====
/-
  The idealized kernel's pipeline body. The array of queries (3907 rows of 512) is cut into eight blocks of 512 rows,
  the last of which overhangs the array: only 323 of its rows lie inside. The body reads the whole staged block and
  stores, at each place, the index answered for the query there (`Cert.Round.roundWord`). On the rows past the array's
  end the staged block holds words nothing names, and nothing is stated of what the body makes of them: they are not
  written back.

  Stated for any float values.
-/
module

public import proofs.«01_k».proof.Proof.Round
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameSuffix
public import Idealize.ShloMosaic.Lib.Pipeline.Value
public import Idealize.ShloMosaic.Lib.Tactic

@[expose] public section

set_option maxRecDepth 16384

noncomputable section

namespace Cert.KernelIdeal.Round

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Cert.KernelIdeal.Gen Cert.Round

variable {F : FTy → Type} [FloatOps F]

local notation "𝕄" => MT nD τ sig Unit (Elt F) ℕ (UR sig nD τ) ℕ

variable (m : (ℓ : Loc nD τ sig) → Buf (Elt F) ℓ)

/-! ## The block the body stores -/

/-- The stored block is the answered index of each query of the loaded block, place by place. -/
theorem pay_eq (X : Vec F S512x512 .f32) : k0_pay1 X = fun j => roundWord (X j) := by
  unfold k0_pay1
  rw [shapeCast_self]
  rfl

/-! ## The proof data -/

/-- The queries of the block at point `t`, on the rows inside the array. -/
def qblk (c : Dev nD) (t : Fin cfg0.N) : (win0_0.xblock (grid0.coords t)).Idx → Elt F .f32 := iblk m c 0 t

/-- The answers of the block at point `t`, on the rows inside the array (the two windows cut the array alike). -/
def ablk (c : Dev nD) (t : Fin cfg0.N) : (win0_0.xblock (grid0.coords t)).Idx → Elt F .i32 :=
  fun j => roundWord (qblk m c t j)

/-- What the two staging buffers hold after the body at point `t`: the queries and the answers on the rows inside the
    array; past its end, where nothing is claimed, a filler of zeros. -/
def after0 (c : Dev nD) (t : Fin cfg0.N) : S512x512.Idx → Elt F .f32 :=
  win0_0.fill (grid0.coords t) (fun _ => Scalar.ofBits .f32 0#32) (qblk m c t)
def after1 (c : Dev nD) (t : Fin cfg0.N) : S512x512.Idx → Elt F .i32 :=
  win0_0.fill (grid0.coords t) (fun _ => (0#32 : BitVec 32)) (ablk m c t)

/-- The pipeline's proof data on device `c`: the arrays as the region finds them; after the body the staging buffers
    at `after0` and `after1`; the class's invariant; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => after0 m c t
    | ⟨1, _⟩ => after1 m c t
  Φ _ := Pipeline.ΦA spec0 c
  q _ := fullShare
  owed _ := 0

/-- The kernel calls nothing recursive: no variants. -/
abbrev 𝒱₀ : Variants := Variants.none

/-- The result's window is never fetched. -/
theorem fetch_1 (t : Fin cfg0.N) : (cfg0.win (1 : Fin 2)).fetch t = false := rfl

/-- The body finds the block of queries just fetched: the array's rows, and anything (`d`) past its end. -/
theorem before_0 (c : Dev nD) (t : Fin cfg0.N) (d) :
    (dats m 0 c).before (0 : Fin 2) t d = win0_0.fill (grid0.coords t) d (qblk m c t) := by
  unfold Dat.before; rw [if_pos (fetch0_0 t)]; rfl

/-- The body finds the result's buffer at contents nothing names. -/
theorem before_1 (c : Dev nD) (t : Fin cfg0.N) (d) : (dats m 0 c).before (1 : Fin 2) t d = d := by
  unfold Dat.before
  rw [if_neg (by rw [fetch_1 t]; exact Bool.false_ne_true)]
  split
  · rfl
  · exact if_pos (flush0_1 _)

/-! ## The body -/

/-- The body on any pair of the windows' staging buffers: the buffer of queries unchanged, the result's at the answers
    of everything the first holds. -/
theorem sound_body (c : Dev nD) (E : Set ℕ) (i : grid0.Coords) (s0 s1 : Fin 2)
    (X : S512x512.Idx → Elt F .f32) (Y : S512x512.Idx → Elt F .i32) (K : PUnit → sProp 𝕄) :
    iprop((owns (c : Thread nD τ) (stage0_0 s0) fullShare X ∗ owns (c : Thread nD τ) (stage0_1 s1) fullShare Y)
          ∗ (iprop(owns (c : Thread nD τ) (stage0_0 s0) fullShare X
                  ∗ owns (c : Thread nD τ) (stage0_1 s1) fullShare (k0_pay1 X)) -∗ K ⟨⟩))
      ⊢ wp frame (wpE (defs₀ (F := F)) 𝒱₀ c none) E
          (cc0__round_body i (stage0_0 s0) (hstage0_0 s0) (stage0_1 s1) (hstage0_1 s1)) K := by
  have hz : (![0, 0] : Fin 2 → Nat) = fun _ => 0 := funext fun a => by fin_cases a <;> rfl
  have hr0 : (Memref.whole cc0_stg0_0 : Memref sig .tc _ _ _).view.readAt (Elt F) (Rect.unit (s := S512x512) ![0, 0] S512x512.size
      inb_S512x512_S512x512_0_0).toLoadRect = id := funext (Memref.readAt_unit_zero (Elt F) cc0_stg0_0 hz _)
  have hw0 : ∀ f w, (((Memref.whole cc0_stg1_0).access (Rect.unit (s := S512x512) ![0, 0] S512x512.size
      inb_S512x512_S512x512_0_0)) : View sig .tc _ _ _).write (Elt F) f w Finset.univ = w :=
    Memref.write_access_unit_zero_univ (Elt F) cc0_stg1_0 hz _
  have hr1 : (Memref.whole cc0_stg0_1 : Memref sig .tc _ _ _).view.readAt (Elt F) (Rect.unit (s := S512x512) ![0, 0] S512x512.size
      inb_S512x512_S512x512_0_0).toLoadRect = id := funext (Memref.readAt_unit_zero (Elt F) cc0_stg0_1 hz _)
  have hw1 : ∀ f w, (((Memref.whole cc0_stg1_1).access (Rect.unit (s := S512x512) ![0, 0] S512x512.size
      inb_S512x512_S512x512_0_0)) : View sig .tc _ _ _).write (Elt F) f w Finset.univ = w :=
    Memref.write_access_unit_zero_univ (Elt F) cc0_stg1_1 hz _
  rw [cc0__round_body_eq_skeleton]; unfold cc0__round_body_skel
  fin_cases s0 <;> fin_cases s1 <;>
  · simp only [owns_whole_eq, Prog.lift, Prog.bind_op, Prog.bind_ret]
    iintro ⟨⟨⟨%f, %hf, Hx⟩, ⟨%g, %hg, Hy⟩⟩, Hk⟩
    subst hf
    sl_steps
    iapply Hk
    isplitl [Hx]
    · iexists f; isplitr; · ipureintro; rfl
      iexact Hx
    · iexists k0_pay1 f; isplitr; · ipureintro; rfl
      first | rw [hr0, hw0] | rw [hr0, hw1] | rw [hr1, hw0] | rw [hr1, hw1]
      iexact Hy

/-- The answers of a filled-out block are the filled-out answers. -/
theorem pay_fill (i : grid0.Coords) (d : S512x512.Idx → Elt F .f32) (x : (win0_0.xblock i).Idx → Elt F .f32) :
    k0_pay1 (win0_0.fill i d x) = win0_0.fill i (k0_pay1 d) (fun j => roundWord (x j)) := by
  rw [pay_eq, pay_eq]
  funext j; unfold Window.fill; split <;> rfl

/-- The library's body obligation: at every point the body leaves both buffers at the proof data's contents on the rows
    inside the array. -/
theorem body_obligation (c : Dev nD) : BodyObligationLoose (dats m 0 c) (defs₀ (F := F)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d, Hx⟩, ⟨%e, Hy⟩⟩
  rw [before_0 m c t d, before_1 m c t e]
  iapply (sound_body (F := F) c Set.univ (grid0.coords t) (cfg0.slots t 0) (cfg0.slots t 1)
    (win0_0.fill (grid0.coords t) d (qblk m c t)) e _)
  isplitl [Hx Hy]
  · isplitl [Hx]
    · iexact Hx
    · iexact Hy
  iintro ⟨Hx, Hy⟩
  isplitl [HΦ]; · iexact HΦ
  isplitl [Ho]; · iexact Ho
  have hx : win0_0.cut (grid0.coords t) (after0 m c t) = qblk m c t := win0_0.cut_fill _ _ _
  have hy : win0_0.cut (grid0.coords t) (after1 m c t) = ablk m c t := win0_0.cut_fill _ _ _
  isplitl [Hx]
  · iexists d
    change _ ⊢ owns (c : Thread nD τ) (stage0_0 (cfg0.slots t 0)) fullShare
      (win0_0.fill (grid0.coords t) d (win0_0.cut (grid0.coords t) (after0 m c t)))
    rw [hx]; try iexact Hx
  · iexists k0_pay1 d
    change _ ⊢ owns (c : Thread nD τ) (stage0_1 (cfg0.slots t 1)) fullShare
      (win0_0.fill (grid0.coords t) (k0_pay1 d) (win0_0.cut (grid0.coords t) (after1 m c t)))
    rw [hy, show ablk m c t = fun j => roundWord (qblk m c t j) from rfl, ← pay_fill]; try iexact Hy

end Cert.KernelIdeal.Round

end
-- ==== Proof.KernelIdealRun.lean ====
/-
  The idealized kernel's run. Every execution terminates with every semaphore at zero, the arguments as they were, and
  the result at place `i` the index answered for the query at place `i` (`Cert.Round.roundWord`): the host pads the
  queries with zeros and lays them out in rows of 512, the pipeline answers every row, and the host lays the answers
  out in a line again and drops those of the padding.

  Stated for any float values.
-/
module

public import proofs.«01_k».proof.Proof.KernelIdealBody
public import Idealize.ShloMosaic.Lib.KernelVsHost
public import Idealize.ShloMosaic.Lib.Pointwise.Reshape

@[expose] public section

set_option maxRecDepth 16384

noncomputable section

namespace Cert.KernelIdeal.Round

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Cert.KernelIdeal.Gen Cert.Round

variable {F : FTy → Type} [FloatOps F]

variable (m : (ℓ : Loc nD τ sig) → Buf (Elt F) ℓ) (ρ : Dev nD → PrngReg)

/-! ## The result array of the pipeline -/

/-- The answers of the whole array of queries. -/
abbrev answers (c : Dev nD) : Buf (Elt F) ((c : Thread nD τ).loc main_v2) := fun i => roundWord (V m c main_v1 i)

/-- What is written back at point `t` is the answers' block at `t`. -/
theorem flushed_eq (c : Dev nD) (t : Fin cfg0.N) :
    (dats m 0 c).flushed (1 : Fin 2) t = ((cfg0.win (1 : Fin 2)).blk t).view.read (Elt F) (answers m c) := by
  change win0_0.cut (grid0.coords t) (after1 m c t) = ablk m c t
  exact win0_0.cut_fill _ _ _

/-- An index of the array lies in point `t`'s block when its row is among the block's rows inside the array. -/
theorem mem_blk (t : Fin cfg0.N) (i : S3907x512.Idx)
    (h : win0_1.index t 0 * 512 ≤ (i 0 : Nat) ∧ (i 0 : Nat) < win0_1.index t 0 * 512 + win0_1.xsize (grid0.coords t) 0) :
    i ∈ (win0_1.blk t).view.set := by
  change i ∈ ((View.whole main_v2).slice (win0_1.rect t)).set
  rw [View.set_slice_whole, Rect.mem_set_unit]
  have h1 : (i 1 : Nat) < 512 := (i 1).isLt
  have e1 : win0_1.index t 1 * win0_1.size 1 = 0 ∧ win0_1.xsize (grid0.coords t) 1 = 512 := by
    rcases fin_N0 t with rfl | rfl | rfl | rfl | rfl | rfl | rfl | rfl <;> decide +kernel
  intro a
  match a with
  | ⟨0, _⟩ => exact h
  | ⟨1, _⟩ =>
    change win0_1.index t 1 * win0_1.size 1 ≤ (i 1 : Nat) ∧ (i 1 : Nat) < win0_1.index t 1 * win0_1.size 1 + win0_1.xsize (grid0.coords t) 1
    rw [e1.1, e1.2]; omega

/-- Point `t`'s block starts at row `512 t` and has 512 rows inside the array, the last 323. -/
theorem block_rows (t : Fin cfg0.N) :
    win0_1.index t 0 = t.val ∧ win0_1.xsize (grid0.coords t) 0 = min 512 (3907 - t.val * 512) := by
  rcases fin_N0 t with rfl | rfl | rfl | rfl | rfl | rfl | rfl | rfl <;> decide +kernel

/-- The eight blocks cover the array: row `r` is in block `r / 512`. -/
theorem covered (i : S3907x512.Idx) : ∃ t : Fin cfg0.N, (cfg0.win (1 : Fin 2)).flush t = true ∧ i ∈ ((cfg0.win (1 : Fin 2)).blk t).view.set := by
  have h0 : (i 0 : Nat) < 3907 := (i 0).isLt
  have hN : cfg0.N = 8 := N_0
  refine ⟨⟨(i 0 : Nat) / 512, by rw [hN]; omega⟩, flush0_1 _, mem_blk _ i ?_⟩
  rw [(block_rows _).1, (block_rows _).2]
  dsimp only
  omega

/-- The pipeline's result array ends holding the answers of every query of the array. -/
theorem result_array (c : Dev nD) : (dats m 0 c).arrAt (1 : Fin 2) cfg0.N = answers m c :=
  (dats m 0 c).arrAt_eq_of_cover (1 : Fin 2) (answers m c) (fun t _ => flushed_eq m c t) covered

/-! ## The host lines around the pipeline -/

/-- The array of queries the pipeline reads: the query padded with zeros, in rows of 512. -/
theorem V_main_v1 (c : Dev nD) : V m c main_v1
    = shapeCast S3907x512 (pad S2000384 ![0] ![384] ![0] (m ((c : Thread nD τ).loc main_arg1))
        (sitofp .f32 (constantI S_ 32 0#32)) pads_S2000000_S2000384_03840 h_S_) shapeCasts_S2000384_S3907x512 := by
  unfold V V0
  simp only [hostOps0, hostOps0_1, hostOps0_2, List.flatten_cons, List.flatten_nil, List.append_nil, List.cons_append, List.nil_append]
  after_results_simp
  rfl

/-- Row `i / 512`, lane `i % 512` of that array is query `i`. -/
theorem V_main_v1_apply (c : Dev nD) (i : S2000000.Idx) (j : S3907x512.Idx) (h : (j 0).val * 512 + (j 1).val = (i 0).val) :
    V m c main_v1 j = m ((c : Thread nD τ).loc main_arg1) i := by
  rw [V_main_v1, shapeCast_apply (k := ix1 (⟨(i 0).val, lt_of_lt_of_le (i 0).isLt (by decide)⟩ : Fin 2000384)) (hk := by
    rw [Shape.rowMajor_val_one, Shape.rowMajor_val_two]; exact h.symm)]
  refine pad_apply_of_inside _ _ _ _ _ _ _ _ i fun a => ?_
  fin_cases a
  show (i 0).val = 0 + (i 0).val * (0 + 1)
  omega

/-- The result @main leaves: the pipeline's answers in a line, those of the padding dropped. -/
theorem tail_main_v4 (c : Dev nD) : Pipeline.afterTail₀ cfgs (dats m) 0 (V0 m) [hostOps1] c main_v4
    = extractStridedSlice S2000000 ![0] (shapeCast S2000384 (answers m c) shapeCasts_S3907x512_S2000384) slices_S2000384_S2000000_0 := by
  unfold Pipeline.afterTail₀
  simp only [hostOps1, List.flatten_cons, List.flatten_nil, List.append_nil]
  after_results_simp
  exact congrArg (fun A : S3907x512.Idx → BitVec 32 =>
      extractStridedSlice S2000000 ![0] (shapeCast S2000384 A shapeCasts_S3907x512_S2000384) slices_S2000384_S2000000_0)
    ((Pipeline.withArrays_arr spec0 launch0.win.arr_inj c (V0 m c) (fun w => (dats m 0 c).arrAt w cfg0.N) (1 : Fin 2)).trans (result_array m c))

/-- So the result at place `i` is the index answered for query `i`. -/
theorem result_eq (c : Dev nD) : Pipeline.afterTail₀ cfgs (dats m) 0 (V0 m) [hostOps1] c main_v4
    = fun i => roundWord (m ((c : Thread nD τ).loc main_arg1) i) := by
  rw [tail_main_v4]
  funext i
  have hi : (i 0).val < 2000000 := (i 0).isLt
  rw [extractStridedSlice_apply (k := ix1 (⟨(i 0).val, by omega⟩ : Fin 2000384)) (hk := fun a => by
      fin_cases a; show (i 0).val = 0 + (i 0).val; omega),
    shapeCast_apply (k := ix2 (⟨(i 0).val / 512, by omega⟩ : Fin 3907) (⟨(i 0).val % 512, Nat.mod_lt _ (by decide)⟩ : Fin 512)) (hk := by
      rw [Shape.rowMajor_val_one, Shape.rowMajor_val_two]; exact Nat.div_add_mod' (i 0).val 512)]
  exact congrArg roundWord (V_main_v1_apply m c i _ (Nat.div_add_mod' (i 0).val 512))

/-! ## The run -/

/-- Every execution of @main from a memory whose counters are zero terminates; it ends with every pipeline array and
    every other buffer at the computed contents, and with every counter at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ 𝒱₀ m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hmain := hmain m 𝒱₀) (hA := fun _ _ => rfl) (hΦ := fun _ _ => rfl)
    (Q' := _) (hQ' := fun _ h => h)

/-- The run read at the result and the arguments. -/
theorem run_value : θ_run defs (onTc (τ := τ) (main (F := F))) ⟨m, fun _ => 0, ρ⟩ (fun r => (∀ c : Dev nD,
      r.2.mem ((c : Thread nD τ).loc main_v4) = (fun i => roundWord (m ((c : Thread nD τ).loc main_arg1) i))
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c =>
      ⟨((h.1 c).2 main_v4 (Pipeline.mem_restRefs_of main_v4 (by decide) (by decide))).trans (result_eq m c),
        ((h.1 c).2 main_arg0 (Pipeline.mem_restRefs_of main_arg0 (by decide) (by decide))).trans (W_main_arg0 m (dats m) c),
        ((h.1 c).2 main_arg1 (Pipeline.mem_restRefs_of main_arg1 (by decide) (by decide))).trans (W_main_arg1 m (dats m) c)⟩, h.2⟩)
    (run_main m ρ)

end Cert.KernelIdeal.Round

end
-- ==== Proof.Nearest.lean ====
/-
  The mathematics: over the axis 0, 1, …, 999999, the kernel's rounding of a query less one half is the reference's
  choice between the two grid points around the query.

  The reference counts the grid points below the query, clips the count to [1, 999999] to get the right neighbour `i`,
  and takes `i - 1` when the query is at least as near to it, else `i`. The kernel truncates and corrects. The two
  agree on every query up to 2147483520, minus infinity among them; beyond 2^31 the kernel's integer arithmetic wraps.
-/
module

public import proofs.«01_k».proof.Proof.Round
public import Idealize.ShloMosaic.Lib.StableHlo.Predicate
public import Idealize.ShloMosaic.Lib.IdealHost
public import Idealize.ShloMosaic.PureOps.Ideal.Laws

@[expose] public section

noncomputable section

namespace Cert.Round

open Idealize.ShloMosaic Idealize.ShloMosaic.StableHlo.Predicate

/-! ## Constants and words -/

/-- The pattern of one half. -/
theorem ofBits_half : (Scalar.ofBits .f32 0x3F000000#32 : Ideal .f32) = ((1 / 2 : ℝ) : EReal) := by
  show Ideal.ofBits .f32 0x3F000000#32 = _
  simp [Ideal.ofBits, Ideal.ieee, -EReal.coe_mul]; norm_num

/-- The pattern of zero. -/
theorem ofBits_zero : (Scalar.ofBits .f32 0x00000000#32 : Ideal .f32) = ((0 : ℝ) : EReal) := by
  show Ideal.ofBits .f32 0x00000000#32 = _
  rw [Ideal.ofBits_zero_f32]; rfl

/-- The pattern of 2147483520, the largest float below 2^31. -/
theorem ofBits_limit : (Ideal.ofBits .f32 0x4EFFFFFF#32) = ((2147483520 : ℝ) : EReal) := by
  simp [Ideal.ofBits, Ideal.ieee, -EReal.coe_mul]; norm_num

/-- The lesser of a small word and 999999. -/
theorem minsi_last (a : ℕ) (ha : a < 2 ^ 31) : IntOp.minsi (BitVec.ofNat 32 a) 999999#32 = BitVec.ofNat 32 (min a 999999) := by
  have h : (BitVec.ofNat 32 a).toInt = a := toInt_ofNat_small a ha
  have h' : (999999#32 : BitVec 32).toInt = 999999 := by decide
  unfold IntOp.minsi
  simp only [BitVec.slt, h, h', decide_eq_true_eq]
  split
  · rw [min_eq_left (by omega)]
  · rw [min_eq_right (by omega)]

/-- A small word clipped to [1, 999999]. -/
theorem clip_word (w : BitVec 32) (a : ℕ) (hw : w.toNat = a) (ha : a < 2 ^ 31) :
    IntOp.minsi 999999#32 (IntOp.maxsi 1#32 w) = BitVec.ofNat 32 (min 999999 (max 1 a)) := by
  have h : w.toInt = a := by rw [toInt_eq_toNat_of_lt (by omega), hw]
  have hmax : IntOp.maxsi 1#32 w = BitVec.ofNat 32 (max 1 a) := by
    unfold IntOp.maxsi
    simp only [BitVec.slt, h, show (1#32 : BitVec 32).toInt = 1 by decide, decide_eq_true_eq]
    split
    · rw [max_eq_left (by omega)]
    · rw [max_eq_right (by omega)]; exact BitVec.eq_of_toNat_eq (by rw [hw, BitVec.toNat_ofNat]; omega)
  rw [hmax]
  unfold IntOp.minsi
  simp only [BitVec.slt, toInt_ofNat_small (max 1 a) (by omega), show (999999#32 : BitVec 32).toInt = 999999 by decide, decide_eq_true_eq]
  split
  · rw [min_eq_left (by omega)]
  · rw [min_eq_right (by omega)]

/-- A nonnegative real below 2^31 - 1, converted to an integer word: its whole part. -/
theorem fptosi_nonneg (t : ℝ) (h0 : 0 ≤ t) (h1 : t < 2147483647) : Ideal.fptosi 32 (t : EReal) = BitVec.ofNat 32 ⌊t⌋₊ := by
  have hf : (⌊t⌋₊ : ℤ) = ⌊t⌋ := Int.natCast_floor_eq_floor h0
  have hl : ⌊t⌋₊ < 2147483647 := (Nat.floor_lt h0).2 (by exact_mod_cast h1)
  unfold Ideal.fptosi
  rw [Ideal.toIntClamped_coe, if_pos h0, ← hf, min_eq_right (by norm_num; omega), max_eq_right (by omega)]
  exact BitVec.ofInt_natCast ..

/-- An integer word read back from its float. -/
theorem fptosi_sitofp (k : ℕ) (h : k < 1000000) :
    Ideal.fptosi 32 (((BitVec.ofNat 32 k).toInt : ℝ) : EReal) = BitVec.ofNat 32 k := by
  rw [toInt_ofNat_small k (by omega)]
  have hk : ((k : ℤ) : ℝ) = (k : ℝ) := by push_cast; rfl
  rw [hk, fptosi_nonneg _ (Nat.cast_nonneg k) (by exact_mod_cast (by omega : k < 2147483647)), Nat.floor_natCast]

/-! ## The kernel's word -/

/-- The kernel's answer to a real query, in natural numbers: the whole part of the shifted query, one more where that
    is below it, at most 999999. -/
def kernelNat (r : ℝ) : ℕ :=
  min (⌊max (r - 1 / 2) 0⌋₊ + if (⌊max (r - 1 / 2) 0⌋₊ : ℝ) < r - 1 / 2 then 1 else 0) 999999

theorem roundWord_coe (r : ℝ) (h : r ≤ 2147483520) : roundWord (F := Ideal) (r : EReal) = BitVec.ofNat 32 (kernelNat r) := by
  have hs : shifted (F := Ideal) (r : EReal) = ((r - 1 / 2 : ℝ) : EReal) := by
    unfold shifted; rw [ofBits_half]; exact (EReal.coe_sub _ _).symm
  have h0 : 0 ≤ max (r - 1 / 2) 0 := le_max_right _ _
  have h1 : max (r - 1 / 2) 0 < 2147483521 := max_lt (by linarith) (by norm_num)
  have hl : ⌊max (r - 1 / 2) 0⌋₊ < 2147483521 := (Nat.floor_lt h0).2 (by exact_mod_cast h1)
  have ht : truncated (F := Ideal) (r : EReal) = BitVec.ofNat 32 ⌊max (r - 1 / 2) 0⌋₊ := by
    unfold truncated; rw [hs, ofBits_zero]
    refine Eq.trans (congrArg (Ideal.fptosi 32) (EReal.coe_strictMono.monotone.map_max).symm) (fptosi_nonneg _ h0 (by linarith))
  have hc : (FloatOps.cmpf (F := Ideal) (φ := .f32) .olt (FloatOps.sitofp (F := Ideal) .f32 (BitVec.ofNat 32 ⌊max (r - 1 / 2) 0⌋₊)) (((r - 1 / 2 : ℝ) : EReal) : Ideal .f32))
      = BitVec.ofBool (decide ((⌊max (r - 1 / 2) 0⌋₊ : ℝ) < r - 1 / 2)) := by
    show BitVec.ofBool (decide ((((BitVec.ofNat 32 ⌊max (r - 1 / 2) 0⌋₊).toInt : ℝ) : EReal) < ((r - 1 / 2 : ℝ) : EReal))) = _
    rw [toInt_ofNat_small _ (by omega)]
    simp only [EReal.coe_lt_coe_iff, Int.cast_natCast]
  unfold roundWord kernelNat
  rw [ht, hs, hc]
  by_cases hlt : (⌊max (r - 1 / 2) 0⌋₊ : ℝ) < r - 1 / 2
  · rw [if_pos hlt, decide_eq_true hlt, ← minsi_last _ (by omega)]
    exact congrArg (fun w => IntOp.minsi w 999999#32) (BitVec.ofNat_add (n := 32) ⌊max (r - 1 / 2) 0⌋₊ 1).symm
  · rw [if_neg hlt, decide_eq_false hlt, ← minsi_last _ (by omega)]
    exact congrArg (fun w => IntOp.minsi w 999999#32) (BitVec.ofNat_add (n := 32) ⌊max (r - 1 / 2) 0⌋₊ 0).symm

/-- Minus infinity is answered by index 0. -/
theorem roundWord_bot : roundWord (F := Ideal) (⊥ : EReal) = 0#32 := by
  have hs : shifted (F := Ideal) (⊥ : EReal) = (⊥ : EReal) := by
    unfold shifted; rw [ofBits_half]; rfl
  have ht : truncated (F := Ideal) (⊥ : EReal) = 0#32 := by
    unfold truncated; rw [hs, ofBits_zero]
    show Ideal.fptosi 32 (max (⊥ : EReal) ((0 : ℝ) : EReal)) = _
    rw [max_eq_right bot_le, fptosi_nonneg 0 le_rfl (by norm_num), Nat.floor_zero]
  unfold roundWord
  rw [ht, hs, show FloatOps.cmpf (F := Ideal) (φ := .f32) .olt (FloatOps.sitofp (F := Ideal) .f32 (0#32)) ((⊥ : EReal) : Ideal .f32) = 0#1 from by
    show BitVec.ofBool (decide ((((0#32 : BitVec 32).toInt : ℝ) : EReal) < (⊥ : EReal))) = _
    rw [decide_eq_false not_lt_bot]; rfl]
  decide

/-! ## The reference's word -/

/-- The number of grid points 0, 1, …, 999999 below the query. -/
def countBelow (q : EReal) : ℕ := (Finset.univ.filter fun j : Fin 1000000 => (((j : ℕ) : ℝ) : EReal) < q).card

/-- The right neighbour the reference takes: the count, clipped to [1, 999999]. -/
def rightNat (q : EReal) : ℕ := min 999999 (max 1 (countBelow q))

/-- The reference's answer: the left neighbour when it is at least as near, else the right one. -/
def nearestNat (q : EReal) : ℕ :=
  if q - (((rightNat q - 1 : ℕ) : ℝ) : EReal) ≤ ((rightNat q : ℝ) : EReal) - q then rightNat q - 1 else rightNat q

/-- The right neighbour is a grid point other than the first. -/
theorem rightNat_bounds (q : EReal) : 1 ≤ rightNat q ∧ rightNat q ≤ 999999 := by
  unfold rightNat; omega

theorem nearestNat_lt (q : EReal) : nearestNat q < 1000000 := by
  have := rightNat_bounds q
  unfold nearestNat; split <;> omega

/-- Below a real query lie as many grid points as its ceiling says, at most a million. -/
theorem countBelow_coe (r : ℝ) : countBelow (r : EReal) = min 1000000 ⌈r⌉₊ := by
  unfold countBelow
  simp only [EReal.coe_lt_coe_iff, ← Nat.lt_ceil]
  rw [Fin.card_filter_val_lt]

theorem rightNat_coe (r : ℝ) : rightNat (r : EReal) = min 999999 (max 1 ⌈r⌉₊) := by
  unfold rightNat; rw [countBelow_coe]; omega

theorem nearestNat_bot : nearestNat (⊥ : EReal) = 0 := by
  have hr : rightNat (⊥ : EReal) = 1 := by
    unfold rightNat countBelow
    simp only [not_lt_bot, Finset.filter_false, Finset.card_empty]
    decide
  unfold nearestNat
  rw [hr, if_pos]
  rw [EReal.bot_sub]; exact bot_le

/-- The reference's comparison of a real query's two distances, in reals. -/
theorem nearestNat_coe (r : ℝ) : nearestNat (r : EReal)
    = if 2 * r ≤ 2 * (rightNat (r : EReal) : ℝ) - 1 then rightNat (r : EReal) - 1 else rightNat (r : EReal) := by
  unfold nearestNat
  have hb := rightNat_bounds (r : EReal)
  generalize rightNat (r : EReal) = i at hb ⊢
  refine if_congr ?_ rfl rfl
  rw [← EReal.coe_sub, ← EReal.coe_sub, EReal.coe_le_coe_iff, Nat.cast_sub hb.1]
  push_cast
  constructor <;> intro h <;> linarith

/-- On the reals the two answers agree. -/
theorem kernelNat_eq (r : ℝ) : kernelNat r = nearestNat (r : EReal) := by
  rw [nearestNat_coe, rightNat_coe]
  unfold kernelNat
  have hlo : (⌊max (r - 1 / 2) 0⌋₊ : ℝ) ≤ max (r - 1 / 2) 0 := Nat.floor_le (le_max_right _ _)
  have hhi : max (r - 1 / 2) 0 < (⌊max (r - 1 / 2) 0⌋₊ : ℝ) + 1 := Nat.lt_floor_add_one _
  have hcl : r ≤ (⌈r⌉₊ : ℝ) := Nat.le_ceil r
  have hcu : ⌈r⌉₊ = 0 ∨ (⌈r⌉₊ : ℝ) < r + 1 := by
    rcases Nat.eq_zero_or_pos ⌈r⌉₊ with h | h
    · exact .inl h
    · exact .inr (Nat.ceil_lt_add_one (le_of_lt (Nat.ceil_pos.1 h)))
  generalize ⌊max (r - 1 / 2) 0⌋₊ = T at hlo hhi ⊢
  generalize ⌈r⌉₊ = c at hcl hcu ⊢
  by_cases hr : r ≤ 1 / 2
  · -- the shifted query is not positive: both answer 0
    rw [max_eq_right (by linarith)] at hlo hhi
    have hT : T = 0 := by exact_mod_cast le_antisymm hlo (Nat.cast_nonneg T)
    have hc : c ≤ 1 := by
      rcases hcu with h | h
      · omega
      · have : (c : ℝ) < (2 : ℕ) := by push_cast; linarith
        have := Nat.cast_lt.1 this; omega
    subst hT
    rw [show min 999999 (max 1 c) = 1 by omega, if_neg (by push_cast; linarith), if_pos (by push_cast; linarith)]
    rfl
  · rw [max_eq_left (by linarith)] at hlo hhi
    have hc : (c : ℝ) < r + 1 := by
      rcases hcu with h | h
      · rw [h]; push_cast; linarith
      · exact h
    have hc1 : T + 1 ≤ c := by
      have : (T : ℝ) < (c : ℕ) := by linarith
      exact Nat.cast_lt.1 this
    have hc2 : c ≤ T + 2 := by
      have : (c : ℝ) < ((T + 3 : ℕ) : ℝ) := by push_cast; linarith
      have := Nat.cast_lt.1 this; omega
    have hmax : max 1 c = c := by omega
    rw [hmax]
    by_cases hbig : 999999 ≤ c
    · -- the right neighbour is the last grid point
      rw [min_eq_left hbig]
      have hbig' : ((999999 : ℕ) : ℝ) ≤ c := Nat.cast_le.2 hbig
      push_cast at hbig' ⊢
      by_cases hfar : 2 * r ≤ 2 * 999999 - 1
      · rw [if_pos hfar]
        have hT : T ≤ 999998 := by
          have : (T : ℝ) < ((999999 : ℕ) : ℝ) := by push_cast; linarith
          have := Nat.cast_lt.1 this; omega
        split
        · rename_i hlt
          have : (T : ℝ) < ((999998 : ℕ) : ℝ) := by push_cast; linarith
          have := Nat.cast_lt.1 this; omega
        · have hT' : ((999998 : ℕ) : ℝ) < ((T + 1 : ℕ) : ℝ) := by push_cast; linarith
          have := Nat.cast_lt.1 hT'; omega
      · rw [if_neg hfar]
        split
        · have hT' : ((999998 : ℕ) : ℝ) < ((T + 1 : ℕ) : ℝ) := by push_cast; linarith
          have := Nat.cast_lt.1 hT'; omega
        · have hT' : ((999998 : ℕ) : ℝ) < (T : ℝ) := by push_cast; linarith
          have := Nat.cast_lt.1 hT'; omega
    · rw [min_eq_right (show c ≤ 999999 by omega)]
      rcases (by omega : c = T + 1 ∨ c = T + 2) with rfl | rfl
      · push_cast
        by_cases hlt : (T : ℝ) < r - 1 / 2
        · rw [if_pos hlt, if_neg (by linarith)]; omega
        · rw [if_neg hlt, if_pos (by linarith)]; omega
      · push_cast at hc ⊢
        rw [if_pos (by linarith), if_pos (by linarith)]; omega

/-- The kernel's word is the reference's answer, at every query up to the limit. -/
theorem roundWord_eq (q : EReal) (h : q ≤ ((2147483520 : ℝ) : EReal)) : roundWord (F := Ideal) q = BitVec.ofNat 32 (nearestNat q) := by
  induction q using EReal.rec with
  | bot => rw [nearestNat_bot]; exact roundWord_bot
  | coe r => rw [roundWord_coe r (EReal.coe_le_coe_iff.1 h), kernelNat_eq]
  | top => exact absurd h (by simp)

end Cert.Round

end
-- ==== Proof.ReferenceValue.lean ====
/-
  The reference program read back. Its run ends with the composed term of the two arguments; here that term is read
  element by element, over the axis 0, 1, …, 999999: the element of a query is the word of `Cert.Round.nearestNat` of it.

  The term's parts in order: the clipped count (`right_word`), the one below it (`left_word`), the two takes from the
  axis, each an in-range test around a gather (`take_read`), the choice between the neighbours (`nearest_word`), the
  last take, from the positions as floats, and its conversion back to integers (`answer`).
-/
module

public import proofs.«01_k».proof.Proof.Nearest
public import proofs.«01_k».proof.Proof.Gen.ReferenceIdeal.Run
public import proofs.«01_k».proof.Proof.Gen.Pre_unit_axis
public import Idealize.ShloMosaic.Lib.ReduceAll
public import Idealize.ShloMosaic.Lib.Quiescent
public import Idealize.ShloMosaic.Adequacy

@[expose] public section

noncomputable section

namespace Cert.ReferenceIdeal.Nearest

open Cert.ReferenceIdeal Cert.ReferenceIdeal.Gen Cert.ReferenceIdeal.Value Cert.Round
open Idealize.ShloMosaic Idealize.ShloMosaic.TcCoe Idealize.SL.Sem Idealize.ShloMosaic.StableHlo
open Idealize.ShloMosaic.StableHlo.Predicate

/-! ## The take -/

/-- The column of positions a take reads: a negative position counts from the end. -/
def column (w : IVec S2000000 32) : IVec S2000000x1 32 :=
  broadcastInDim S2000000x1 ![0] bcast_S2000000_S2000000x1_0
    (select (cmpi .slt w (broadcastInDim S2000000 ![] bcast_S_S2000000 (constantI S_ 32 0#32)))
      (addi w (broadcastInDim S2000000 ![] bcast_S_S2000000 (constantI S_ 32 1000000#32))) w)

/-- A take of `x` at a column of positions: not-a-number where a position is out of range. -/
def take (x : FVec Ideal S1000000 .f32) (k : IVec S2000000x1 32) : FVec Ideal S2000000 .f32 :=
  select (Host.reduce IntOp.andi (andi (cmpi .sge k (broadcastInDim S2000000x1 ![] bcast_S_S2000000x1 (constantI S_ 32 0#32)))
      (cmpi .sle k (broadcastInDim S2000000x1 ![0, 1] bcast_S1x1_S2000000x1_0_1 (broadcastInDim S1x1 ![1] bcast_S1_S1x1_1 (constantI S1 32 999999#32)))))
      (constantI S_ 1 1#1) reducesTo_S2000000x1_S2000000_d1 h_S_)
    (Host.gather gather_S1000000_S2000000x1_S2000000_n_0_n_n_0_1_1 x k)
    (broadcastInDim S2000000 ![] bcast_S_S2000000 (constant S_ .f32 0x7FC00000#32))

/-- A position in range stands in the column as it is. -/
theorem column_read (w : IVec S2000000 32) (p : Fin 2000000) (h : (w (Shape.Idx.ofFin p)).toNat < 1000000) :
    column w (ixP p) = w (Shape.Idx.ofFin p) := by
  unfold column
  rw [bcast_col1]
  show Scalar.select (IntOp.cmpi .slt (w (Shape.Idx.ofFin p)) 0#32) _ _ = _
  have : ¬ IntOp.cmpi .slt (w (Shape.Idx.ofFin p)) 0#32 = 1#1 := by
    rw [slt_iff_toNat (by omega) (by decide)]; simp
  exact if_neg this

/-- The gather of a take reads `x` at the position, clamped into the axis. -/
theorem gather_read (x : FVec Ideal S1000000 .f32) (k : IVec S2000000x1 32) (p : Fin 2000000) :
    Host.gather gather_S1000000_S2000000x1_S2000000_n_0_n_n_0_1_1 x k (Shape.Idx.ofFin p)
      = x (Shape.Idx.ofFin ⟨min (k (ixP p)).toInt.toNat 999999, lt_of_le_of_lt (min_le_right _ _) (by norm_num)⟩) :=
  gather_take (N := 1000000) (n := 2000000) gather_S1000000_S2000000x1_S2000000_n_0_n_n_0_1_1 rfl rfl rfl rfl x k p (by norm_num)

/-- A select whose condition's bit is set reads its first array. -/
theorem select_one {s : Shape} {α : Type} (c : IVec s 1) (a b : s.Idx → α) (i : s.Idx) (h : c i = 1#1) : select c a b i = a i :=
  if_pos h

/-- A take whose positions are all in range reads `x` at them. -/
theorem take_read (x : FVec Ideal S1000000 .f32) (w : IVec S2000000 32) (n : Fin 2000000 → ℕ) (hn : ∀ p, n p < 1000000)
    (hw : ∀ p, w (Shape.Idx.ofFin p) = BitVec.ofNat 32 (n p)) (p : Fin 2000000) :
    take x (column w) (Shape.Idx.ofFin p) = x (Shape.Idx.ofFin ⟨n p, hn p⟩) := by
  have hN : ∀ p, (w (Shape.Idx.ofFin p)).toNat = n p := fun p => by
    rw [hw, BitVec.toNat_ofNat]; have := hn p; omega
  have hcol : ∀ p, column w (ixP p) = w (Shape.Idx.ofFin p) := fun p => column_read w p (by rw [hN]; exact hn p)
  unfold take
  have hmask : Host.reduce IntOp.andi (andi (cmpi .sge (column w) (broadcastInDim S2000000x1 ![] bcast_S_S2000000x1 (constantI S_ 32 0#32)))
      (cmpi .sle (column w) (broadcastInDim S2000000x1 ![0, 1] bcast_S1x1_S2000000x1_0_1 (broadcastInDim S1x1 ![1] bcast_S1_S1x1_1 (constantI S1 32 999999#32)))))
      (constantI S_ 1 1#1) reducesTo_S2000000x1_S2000000_d1 h_S_ (Shape.Idx.ofFin p) = 1#1 := by
    refine Host.reduce_andi_one _ _ _ _ _ rfl fun i => ?_
    obtain ⟨r, rfl⟩ : ∃ r : Fin 2000000, i = ixP r := ⟨i 0, by
      funext b; match b with
      | ⟨0, _⟩ => rfl
      | ⟨1, _⟩ => exact Subsingleton.elim (α := Fin 1) _ _⟩
    have hlt := hn r
    show IntOp.andi (IntOp.cmpi .sge (column w (ixP r)) 0#32) (IntOp.cmpi .sle (column w (ixP r)) 999999#32) = 1#1
    have hc : (column w (ixP r)).toNat = n r := by rw [hcol]; exact hN r
    refine IntOp.andi_eq_one.2 ⟨(sge_iff_toNat (by omega) (by decide)).2 (by simp), (sle_iff_toNat (by omega) (by decide)).2 ?_⟩
    rw [hc]; simp; omega
  refine (select_one _ _ _ _ hmask).trans ((gather_read x (column w) p).trans (congrArg x (congrArg Shape.Idx.ofFin (Fin.ext ?_))))
  have := hn p
  show min (column w (ixP p)).toInt.toNat 999999 = n p
  rw [hcol, hw, toInt_ofNat_small _ (by omega)]
  simp; omega

/-! ## The neighbours -/

variable (V0 : Valuation τ sig (Elt Ideal))

/-- The axis the reference is given. -/
abbrev axis : FVec Ideal S1000000 .f32 := V0 (Proc.devRef .tc main_arg0)
/-- The queries. -/
abbrev query : FVec Ideal S2000000 .f32 := V0 (Proc.devRef .tc main_arg1)

/-- The axis is 0, 1, …, 999999. -/
def IsUnitAxis (x : FVec Ideal S1000000 .f32) : Prop := ∀ j : Fin 1000000, x (Shape.Idx.ofFin j) = ((((j : ℕ) : ℝ) : EReal) : Ideal .f32)

/-- The clipped count is the right neighbour. -/
theorem right_word (hx : IsUnitAxis (axis V0)) (p : Fin 2000000) :
    res_main_v8 V0 (Shape.Idx.ofFin p) = BitVec.ofNat 32 (rightNat (query V0 (Shape.Idx.ofFin p))) := by
  have hcnt := toNat_reduce_count_cols (n := 2000000) (m := 1000000) (by norm_num)
    (cmpf .olt (broadcastInDim S2000000x1000000 ![0, 1] bcast_S1x1000000_S2000000x1000000_0_1 (broadcastInDim S1x1000000 ![1] bcast_S1000000_S1x1000000_1 (axis V0)))
      (broadcastInDim S2000000x1000000 ![0, 1] bcast_S2000000x1_S2000000x1000000_0_1 (broadcastInDim S2000000x1 ![0] bcast_S2000000_S2000000x1_0 (query V0))))
    natLt_1_32 reducesTo_S2000000x1000000_S2000000_d1 h_S_ (Shape.Idx.ofFin p)
  have hb : ∀ q : Fin 1000000, cmpf .olt (broadcastInDim S2000000x1000000 ![0, 1] bcast_S1x1000000_S2000000x1000000_0_1 (broadcastInDim S1x1000000 ![1] bcast_S1000000_S1x1000000_1 (axis V0)))
      (broadcastInDim S2000000x1000000 ![0, 1] bcast_S2000000x1_S2000000x1000000_0_1 (broadcastInDim S2000000x1 ![0] bcast_S2000000_S2000000x1_0 (query V0)))
      (ij p q) = 1#1 ↔ (((q : ℕ) : ℝ) : EReal) < query V0 (Shape.Idx.ofFin p) := fun q => by
    show Ideal.cmp .olt (broadcastInDim (s := S1x1000000) S2000000x1000000 ![0, 1] _ _ (ij p q)) (broadcastInDim (s := S2000000x1) S2000000x1000000 ![0, 1] _ _ (ij p q)) = 1#1 ↔ _
    rw [bcast_cols, bcast_rows, hx q]
    simp only [Ideal.cmp, ofBool_eq_one_iff, decide_eq_true_eq]
  have hcard : (Finset.univ.filter fun q : Fin 1000000 => cmpf .olt (broadcastInDim S2000000x1000000 ![0, 1] bcast_S1x1000000_S2000000x1000000_0_1 (broadcastInDim S1x1000000 ![1] bcast_S1000000_S1x1000000_1 (axis V0)))
      (broadcastInDim S2000000x1000000 ![0, 1] bcast_S2000000x1_S2000000x1000000_0_1 (broadcastInDim S2000000x1 ![0] bcast_S2000000_S2000000x1_0 (query V0)))
      (ij ((Shape.Idx.ofFin p : S2000000.Idx) 0) q) = 1#1).card = countBelow (query V0 (Shape.Idx.ofFin p)) := by
    unfold countBelow
    refine congrArg Finset.card (Finset.filter_congr fun q _ => ?_)
    rw [Shape.Idx.ofFin_zero]; exact hb q
  rw [hcard] at hcnt
  unfold res_main_v8
  refine (clip_word _ _ hcnt ?_).trans rfl
  unfold countBelow
  exact lt_of_le_of_lt (Finset.card_le_univ _) (by simp)

/-- The left neighbour is one below the right. -/
theorem left_word (hx : IsUnitAxis (axis V0)) (p : Fin 2000000) :
    res_main_v10 V0 (Shape.Idx.ofFin p) = BitVec.ofNat 32 (rightNat (query V0 (Shape.Idx.ofFin p)) - 1) := by
  have hb := rightNat_bounds (query V0 (Shape.Idx.ofFin p))
  have e : res_main_v10 V0 (Shape.Idx.ofFin p) = IntOp.subi (res_main_v8 V0 (Shape.Idx.ofFin p)) 1#32 := by
    unfold res_main_v10; rfl
  refine e.trans ?_
  rw [right_word V0 hx]; exact sub_one_ofNat _ hb.1 (by omega)

/-- The choice between the neighbours, at one element, over any two taken arrays. -/
theorem choose_read (a b q : FVec Ideal S2000000 .f32) (u v : IVec S2000000 32) (i : S2000000.Idx) :
    select (cmpf .ole (subf q a) (subf b q)) u v i = if q i - a i ≤ b i - q i then u i else v i := by
  show Scalar.select (Ideal.cmp .ole (q i - a i) (b i - q i)) (u i) (v i) = _
  refine if_congr ?_ rfl rfl
  simp only [Ideal.cmp]
  exact (ofBool_eq_one_iff _).trans decide_eq_true_iff

/-- The printed choice, over the two takes. -/
theorem choose_eq : res_main_v18 V0
    = select (cmpf .ole (subf (query V0) (take (axis V0) (column (res_main_v10 V0)))) (subf (take (axis V0) (column (res_main_v8 V0))) (query V0)))
        (res_main_v10 V0) (res_main_v8 V0) := by
  unfold res_main_v18 take query axis
  rw [show res_main_call1_v5 V0 = column (res_main_v10 V0) from rfl, show res_main_call2_v5 V0 = column (res_main_v8 V0) from rfl,
    show subi (res_main_v8 V0) (broadcastInDim S2000000 ![] bcast_S_S2000000 (constantI S_ 32 1#32)) = res_main_v10 V0 from rfl]

/-- The chosen neighbour. -/
theorem nearest_word (hx : IsUnitAxis (axis V0)) (p : Fin 2000000) :
    res_main_v18 V0 (Shape.Idx.ofFin p) = BitVec.ofNat 32 (nearestNat (query V0 (Shape.Idx.ofFin p))) := by
  have hlt : ∀ p : Fin 2000000, rightNat (query V0 (Shape.Idx.ofFin p)) < 1000000 := fun p => by
    have := rightNat_bounds (query V0 (Shape.Idx.ofFin p)); omega
  have hl := take_read (axis V0) (res_main_v10 V0) (fun p => rightNat (query V0 (Shape.Idx.ofFin p)) - 1)
    (fun p => by have := hlt p; omega) (left_word V0 hx) p
  have hr := take_read (axis V0) (res_main_v8 V0) (fun p => rightNat (query V0 (Shape.Idx.ofFin p))) hlt (right_word V0 hx) p
  rw [hx] at hl hr
  rw [choose_eq, choose_read, hl, hr, left_word V0 hx, right_word V0 hx]
  unfold nearestNat
  exact (apply_ite (BitVec.ofNat 32) _ _ _).symm

/-- The reference's result, over the axis 0, 1, …, 999999: at each query the word of its nearest grid point. -/
theorem answer (hx : IsUnitAxis (axis V0)) :
    (fptosi 32 (take (sitofp .f32 (iotaInDim S1000000 32 0)) (res_main_call4_v5 V0)) : IVec S2000000 32)
      = fun i => BitVec.ofNat 32 (nearestNat (query V0 i)) := by
  funext i
  obtain ⟨p, rfl⟩ : ∃ p : Fin 2000000, i = Shape.Idx.ofFin p := ⟨i 0, Shape.Idx.eq_ofFin i⟩
  have h := take_read (sitofp .f32 (iotaInDim S1000000 32 0)) (res_main_v18 V0) (fun p => nearestNat (query V0 (Shape.Idx.ofFin p)))
    (fun p => nearestNat_lt _) (nearest_word V0 hx) p
  rw [show res_main_call4_v5 V0 = column (res_main_v18 V0) from rfl]
  refine (congrArg (Ideal.fptosi 32) h).trans ?_
  exact fptosi_sitofp _ (nearestNat_lt _)

/-! ## The run and the precondition -/

/-- The reference runs, leaves its arguments as they were and ends quiescent: it has no semaphore. -/
theorem run_quiescent (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩) (Value.run m ρ)

/-- What the precondition says of the two arguments: the axis is 0, 1, …, 999999, and no query exceeds 2147483520. -/
theorem pre_read (x : FVec Ideal S1000000 .f32) (q : FVec Ideal S2000000 .f32) [Cert.Pre_unit_axis.Facts]
    (h : Cert.Pre_unit_axis.fn (F := Ideal) x q = fun _ => 1#1) :
    IsUnitAxis x ∧ ∀ i : S2000000.Idx, (q i : EReal) ≤ ((2147483520 : ℝ) : EReal) := by
  obtain ⟨h0, h1⟩ := IntOp.andi_eq_one.1 (congrFun h (fun a => a.elim0))
  haveI : Subsingleton Cert.Pre_unit_axis.S_.Idx := ⟨fun a b => funext fun k => k.elim0⟩
  refine ⟨fun j => ?_, fun i => ?_⟩
  · have e := Host.reduce_andi_all _ _ _ _ _ h0 (Shape.Idx.ofFin j)
    have e' : x (Shape.Idx.ofFin j) = (((BitVec.ofNat 32 (j : ℕ)).toInt : ℝ) : EReal) :=
      of_decide_eq_true ((ofBool_eq_one_iff _).1 e)
    rw [e', toInt_ofNat_small _ (by have := j.isLt; omega), Int.cast_natCast]
  · have e := Host.reduce_andi_all _ _ _ _ _ h1 i
    have e' : (q i : EReal) ≤ Ideal.ofBits .f32 0x4EFFFFFF#32 := of_decide_eq_true ((ofBool_eq_one_iff _).1 e)
    rwa [ofBits_limit] at e'

/-- Under the precondition the reference runs to the kernel's word at every query. -/
theorem run_value (m : (ℓ : Loc nD τ sig) → Buf (Elt Ideal) ℓ) (ρ : Dev nD → PrngReg) [Cert.Pre_unit_axis.Facts]
    (h : ∀ c : Dev nD, Cert.Pre_unit_axis.fn (F := Ideal) (m ((c.tc : Thread nD τ).loc main_arg0)) (m ((c.tc : Thread nD τ).loc main_arg1)) = fun _ => 1#1) :
    θ_run defs (onTc (τ := τ) (main (F := Ideal))) ⟨m, fun _ => 0, ρ⟩ fun r => ∀ c : Dev nD,
      r.2.mem ((c.tc : Thread nD τ).loc main_v20)
          = (fun i => roundWord (F := Ideal) ((m ((c.tc : Thread nD τ).loc main_arg1) : FVec Ideal S2000000 .f32) i) : IVec S2000000 32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r hr c => by
    obtain ⟨hx, hq⟩ := pre_read _ _ (h c)
    refine ⟨(hr c).1.trans ((answer (launchContents m c) hx).trans (funext fun i => ?_)), (hr c).2⟩
    exact (roundWord_eq _ (hq i)).symm) (Value.run m ρ)

end Cert.ReferenceIdeal.Nearest

end
-- ==== Proof.lean ====
/-
  The proof of `Cert.Claim`: a pallas_call that rounds each query less one half to an integer, at most 999999, finds the
  nearest point of the axis 0, 1, …, 999999.

  The kernel, read at bits and at the extended reals, runs to the same word of every query (Proof/KernelRun.lean and
  Proof/KernelIdealRun.lean), which gives both frames and its side of the value. The reference counts the axis below each
  query and takes the nearer neighbour (Proof/ReferenceValue.lean); over that axis its answer is the kernel's word
  (Proof/Nearest.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_unit_axis
public import proofs.«01_k».proof.Proof.KernelRun
public import proofs.«01_k».proof.Proof.KernelIdealRun
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- The kernel at bits: its frame and quiescence. -/
theorem kernel_frame : @quiescent_Kernel Cert.Kernel.Gen.facts := fun m ρ _ =>
  (θ_run _ _ _).mono (fun _ h => ⟨fun c => (h.1 c).2, h.2⟩) (Cert.Kernel.Round.run_value (F := Bits) m ρ)

/-- The kernel at the extended reals: its frame and quiescence. -/
theorem kernelIdeal_frame : @quiescent_KernelIdeal Cert.KernelIdeal.Gen.facts := fun m ρ _ =>
  (θ_run _ _ _).mono (fun _ h => ⟨fun c => (h.1 c).2, h.2⟩) (Cert.KernelIdeal.Round.run_value (F := Ideal) m ρ)

/-- Kernel and reference end with the same result, under the precondition. -/
theorem value : @algebraic_KernelIdeal_ReferenceIdeal_pre_unit_axis Cert.KernelIdeal.Gen.facts Cert.ReferenceIdeal.Gen.facts
    Cert.Pre_unit_axis.Gen.facts := fun m g m' g' hpre hargs => by
  refine ⟨fun c i => Cert.Round.roundWord (F := Ideal) (m ((c.tc : Thread Cert.KernelIdeal.nD Cert.KernelIdeal.τ).loc Cert.KernelIdeal.main_arg1) i),
    (θ_run _ _ _).mono (fun _ h => h.1) (Cert.KernelIdeal.Round.run_value (F := Ideal) m g),
    (θ_run _ _ _).mono (fun _ h c => ⟨(h c).1.trans ?_, (h c).2⟩) (Cert.ReferenceIdeal.Nearest.run_value m' g' fun c => ?_)⟩
  · rw [(hargs c).1, (hargs c).2]; exact hpre c
  · rw [(hargs c).2]; rfl

/-- The certificate's claim. -/
theorem claim : Cert.Claim :=
  ⟨Cert.Kernel.Gen.facts, Cert.KernelIdeal.Gen.facts, Cert.ReferenceIdeal.Gen.facts, Cert.Pre_unit_axis.Gen.facts,
    kernel_frame, kernelIdeal_frame, fun m ρ _ => kernelIdeal_frame m ρ trivial,
    fun m ρ _ => Cert.ReferenceIdeal.Nearest.run_quiescent m ρ, fun m ρ _ => Cert.ReferenceIdeal.Nearest.run_quiescent m ρ,
    trivial, value⟩

end Cert.Proof

end
